-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_top_score_finite [hPre_top_score_finite : Cert.Pre_top_score_finite.Facts] (m : (ℓ : Loc Cert.KernelIdeal.nD Cert.KernelIdeal.τ Cert.KernelIdeal.sig) → Buf (Elt Ideal) ℓ) : Prop :=
  ∀ c : Dev Cert.KernelIdeal.nD,
    (Cert.Pre_top_score_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_top_score_finite [hPre_top_score_finite : Cert.Pre_top_score_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_top_score_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_top_score_finite [hKernelIdeal : Cert.KernelIdeal.Facts] [hPre_top_score_finite : Cert.Pre_top_score_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_top_score_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_top_score_finite [hReferenceIdeal : Cert.ReferenceIdeal.Facts] [hPre_top_score_finite : Cert.Pre_top_score_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_top_score_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_top_score_finite [hKernelIdeal : Cert.KernelIdeal.Facts] [hReferenceIdeal : Cert.ReferenceIdeal.Facts] [hPre_top_score_finite : Cert.Pre_top_score_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_top_score_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_top_score_finite : Cert.Pre_top_score_finite.Facts),
    quiescent_Kernel (hKernel := hKernel)
    ∧ quiescent_KernelIdeal (hKernelIdeal := hKernelIdeal)
    ∧ quiescent_KernelIdeal_pre_top_score_finite (hKernelIdeal := hKernelIdeal) (hPre_top_score_finite := hPre_top_score_finite)
    ∧ quiescent_ReferenceIdeal (hReferenceIdeal := hReferenceIdeal)
    ∧ quiescent_ReferenceIdeal_pre_top_score_finite (hReferenceIdeal := hReferenceIdeal) (hPre_top_score_finite := hPre_top_score_finite)
    ∧ preserves_Kernel_KernelIdeal
    ∧ algebraic_KernelIdeal_ReferenceIdeal_pre_top_score_finite (hKernelIdeal := hKernelIdeal) (hReferenceIdeal := hReferenceIdeal) (hPre_top_score_finite := hPre_top_score_finite)
-- ==== Pre_top_score_finite.lean ====
abbrev S8192x768 : Shape := ⟨2, ![8192, 768]⟩
abbrev S768x8 : Shape := ⟨2, ![768, 8]⟩
abbrev S8 : Shape := ⟨1, ![8]⟩
abbrev S8x768x768 : Shape := ⟨3, ![8, 768, 768]⟩
abbrev S8x768 : Shape := ⟨2, ![8, 768]⟩
abbrev S8192x8 : Shape := ⟨2, ![8192, 8]⟩
abbrev S1x8 : Shape := ⟨2, ![1, 8]⟩
abbrev S_ : Shape := ⟨0, ![]⟩
abbrev S8192 : Shape := ⟨1, ![8192]⟩

class Facts : Prop where
  bcast_S8_S1x8_1 : S8.BroadcastsInDim S1x8 (![1] : Fin 1 → Fin S1x8.rank)
  bcast_S1x8_S8192x8_0_1 : S1x8.BroadcastsInDim S8192x8 (![0, 1] : Fin 2 → Fin S8192x8.rank)
  reducesTo_S8192x8_S8192_d1 : S8192x8.ReducesTo [1] S8192
  h_S_ : 0 < S_.numel
  bcast_S_S8192 : S_.BroadcastsInDim S8192 (![] : Fin 0 → Fin S8192.rank)
  dot_S8192x768_S768x8_S8192x8_1_0_0_1_n_n_wf : DotDims.WF S8192x768 S768x8 S8192x8 [1] [0] [0] [1] [] []

variable [Facts]

def dot_S8192x768_S768x8_S8192x8_1_0_0_1_n_n : DotDims S8192x768 S768x8 S8192x8 where
  lhsContracting := [1]
  rhsContracting := [0]
  lhsNonContracting := [0]
  rhsNonContracting := [1]
  lhsBatch := []
  rhsBatch := []
  wf := dot_S8192x768_S768x8_S8192x8_1_0_0_1_n_n_wf
def fn {F : FTy → Type} [FloatOps F] (main_arg0 : FVec F S8192x768 .f32) (main_arg1 : FVec F S768x8 .f32) (main_arg2 : FVec F S8 .f32) (main_arg3 : FVec F S8x768x768 .f32) (main_arg4 : FVec F S8x768 .f32) : IVec S8192 1 :=
  let main_v0 : FVec F S8192x8 .f32 := (fun l r => Host.dotGeneral dot_S8192x768_S768x8_S8192x8_1_0_0_1_n_n none l r) main_arg0 main_arg1
  let main_v1 : FVec F S1x8 .f32 := broadcastInDim S1x8 ![1] bcast_S8_S1x8_1 main_arg2
  let main_v2 : FVec F S8192x8 .f32 := broadcastInDim S8192x8 ![0, 1] bcast_S1x8_S8192x8_0_1 main_v1
  let main_v3 : FVec F S8192x8 .f32 := addf main_v0 main_v2
  let main_cst : FVec F S_ .f32 := constant S_ .f32 0xFF800000#32
  let main_v4 : FVec F S8192 .f32 := (fun x v => Host.reduce FloatOps.maximumf x v reducesTo_S8192x8_S8192_d1 h_S_) main_v3 main_cst
  let main_v5 : FVec F S8192 .f32 := Host.absf main_v4
  let main_cst_0 : FVec F S_ .f32 := constant S_ .f32 0x7F800000#32
  let main_v6 : FVec F S8192 .f32 := broadcastInDim S8192 ![] bcast_S_S8192 main_cst_0
  let main_v7 : IVec S8192 1 := cmpf .olt main_v5 main_v6
  main_v7
-- ==== Kernel.lean ====
abbrev S8192x768 : Shape := ⟨2, ![8192, 768]⟩
abbrev S768x8 : Shape := ⟨2, ![768, 8]⟩
abbrev S8 : Shape := ⟨1, ![8]⟩
abbrev S8x768x768 : Shape := ⟨3, ![8, 768, 768]⟩
abbrev S8x768 : Shape := ⟨2, ![8, 768]⟩
abbrev S1024x768 : Shape := ⟨2, ![1024, 768]⟩
abbrev S1024x8 : Shape := ⟨2, ![1024, 8]⟩
abbrev S1x8 : Shape := ⟨2, ![1, 8]⟩
abbrev S1024 : Shape := ⟨1, ![1024]⟩
abbrev S1024x1 : Shape := ⟨2, ![1024, 1]⟩
abbrev S1x768x768 : Shape := ⟨3, ![1, 768, 768]⟩
abbrev S768x768 : Shape := ⟨2, ![768, 768]⟩
abbrev S1x768 : Shape := ⟨2, ![1, 768]⟩
abbrev S768 : Shape := ⟨1, ![768]⟩

abbrev nBuf : Space → Nat
  | .hbm => 6
  | .vmem => 8
  | .smem => 0
  | _ => 0

abbrev bufTy : (tb : Table) → Fin (tcTables nBuf tb) → BufTy
  | .hbm, ⟨0, _⟩ => ⟨S8192x768, .f32⟩
  | .hbm, ⟨1, _⟩ => ⟨S768x8, .f32⟩
  | .hbm, ⟨2, _⟩ => ⟨S8, .f32⟩
  | .hbm, ⟨3, _⟩ => ⟨S8x768x768, .f32⟩
  | .hbm, ⟨4, _⟩ => ⟨S8x768, .f32⟩
  | .hbm, ⟨5, _⟩ => ⟨S8192x768, .f32⟩
  | .local _ .vmem, ⟨0, _⟩ => ⟨S1024x768, .f32⟩
  | .local _ .vmem, ⟨1, _⟩ => ⟨S1024x768, .f32⟩
  | .local _ .vmem, ⟨2, _⟩ => ⟨S768x8, .f32⟩
  | .local _ .vmem, ⟨3, _⟩ => ⟨S8, .f32⟩
  | .local _ .vmem, ⟨4, _⟩ => ⟨S8x768x768, .f32⟩
  | .local _ .vmem, ⟨5, _⟩ => ⟨S8x768, .f32⟩
  | .local _ .vmem, ⟨6, _⟩ => ⟨S1024x768, .f32⟩
  | .local _ .vmem, ⟨7, _⟩ => ⟨S1024x768, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x768x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S8192x768 : Shape := ⟨2, ![8192, 768]⟩
abbrev S768x8 : Shape := ⟨2, ![768, 8]⟩
abbrev S8 : Shape := ⟨1, ![8]⟩
abbrev S8x768x768 : Shape := ⟨3, ![8, 768, 768]⟩
abbrev S8x768 : Shape := ⟨2, ![8, 768]⟩
abbrev S8192x8 : Shape := ⟨2, ![8192, 8]⟩
abbrev S1x8 : Shape := ⟨2, ![1, 8]⟩
abbrev S8192x2 : Shape := ⟨2, ![8192, 2]⟩
abbrev S8192x2x1 : Shape := ⟨3, ![8192, 2, 1]⟩
abbrev S1x1x8 : Shape := ⟨3, ![1, 1, 8]⟩
abbrev S8192x2x8 : Shape := ⟨3, ![8192, 2, 8]⟩
abbrev S_ : Shape := ⟨0, ![]⟩
abbrev S8192 : Shape := ⟨1, ![8192]⟩
abbrev S8192x1 : Shape := ⟨2, ![8192, 1]⟩
abbrev S8192x8x768 : Shape := ⟨3, ![8192, 8, 768]⟩
abbrev S1x8x768 : Shape := ⟨3, ![1, 8, 768]⟩
abbrev S8192x8x1 : Shape := ⟨3, ![8192, 8, 1]⟩

abbrev nBuf : Space → Nat
  | .hbm => 49
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S768x8, .f32⟩
  | .hbm, ⟨2, _⟩ => ⟨S8, .f32⟩
  | .hbm, ⟨3, _⟩ => ⟨S8x768x768, .f32⟩
  | .hbm, ⟨4, _⟩ => ⟨S8x768, .f32⟩
  | .hbm, ⟨5, _⟩ => ⟨S8192x8, .f32⟩
  | .hbm, ⟨6, _⟩ => ⟨S1x8, .f32⟩
  | .hbm, ⟨7, _⟩ => ⟨S8192x8, .f32⟩
  | .hbm, ⟨8, _⟩ => ⟨S8192x8, .f32⟩
  | .hbm, ⟨9, _⟩ => ⟨S8192x2, .f32⟩
  | .hbm, ⟨10, _⟩ => ⟨S8192x2, .i32⟩
  | .hbm, ⟨11, _⟩ => ⟨S8192x2x1, .i32⟩
  | .hbm, ⟨12, _⟩ => ⟨S1x1x8, .i32⟩
  | .hbm, ⟨13, _⟩ => ⟨S8192x2x8, .i32⟩
  | .hbm, ⟨14, _⟩ => ⟨S8192x2x8, .i32⟩
  | .hbm, ⟨15, _⟩ => ⟨S8192x2x8, .i1⟩
  | .hbm, ⟨16, _⟩ => ⟨S8192x2x8, .f32⟩
  | .hbm, ⟨17, _⟩ => ⟨S_, .f32⟩
  | .hbm, ⟨18, _⟩ => ⟨S8192x8, .f32⟩
  | .hbm, ⟨19, _⟩ => ⟨S_, .f32⟩
  | .hbm, ⟨20, _⟩ => ⟨S8192x8, .f32⟩
  | .hbm, ⟨21, _⟩ => ⟨S8192x8, .i1⟩
  | .hbm, ⟨22, _⟩ => ⟨S_, .f32⟩
  | .hbm, ⟨23, _⟩ => ⟨S_, .f32⟩
  | .hbm, ⟨24, _⟩ => ⟨S8192x8, .f32⟩
  | .hbm, ⟨25, _⟩ => ⟨S8192x8, .f32⟩
  | .hbm, ⟨26, _⟩ => ⟨S_, .f32⟩
  | .hbm, ⟨27, _⟩ => ⟨S8192, .f32⟩
  | .hbm, ⟨28, _⟩ => ⟨S_, .f32⟩
  | .hbm, ⟨29, _⟩ => ⟨S8192, .f32⟩
  | .hbm, ⟨30, _⟩ => ⟨S8192, .f32⟩
  | .hbm, ⟨31, _⟩ => ⟨S8192x1, .f32⟩
  | .hbm, ⟨32, _⟩ => ⟨S8192x8, .f32⟩
  | .hbm, ⟨33, _⟩ => ⟨S8192x8, .f32⟩
  | .hbm, ⟨34, _⟩ => ⟨S8192x8, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x8, .f32⟩
  | .hbm, ⟨39, _⟩ => ⟨S8192x8, .f32⟩
  | .hbm, ⟨40, _⟩ => ⟨S8192x8x768, .f32⟩
  | .hbm, ⟨41, _⟩ => ⟨S1x8x768, .f32⟩
  | .hbm, ⟨42, _⟩ => ⟨S8192x8x768, .f32⟩
  | .hbm, ⟨43, _⟩ => ⟨S8192x8x768, .f32⟩
  | .hbm, ⟨44, _⟩ => ⟨S8192x8x1, .f32⟩
  | .hbm, ⟨45, _⟩ => ⟨S8192x8x768, .f32⟩
  | .hbm, ⟨46, _⟩ => ⟨S8192x8x768, .f32⟩
  | .hbm, ⟨47, _⟩ => ⟨S_, .f32⟩
  | .hbm, ⟨48, _⟩ => ⟨S8192x768, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_values : Ref sig .tc := ⟨.hbm, 9, rfl⟩
abbrev main_indices : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_call1_v0 : Ref sig .tc := ⟨.hbm, 23, rfl⟩
abbrev main_call1_v1 : Ref sig .tc := ⟨.hbm, 24, rfl⟩
abbrev main_v8 : Ref sig .tc := ⟨.hbm, 25, rfl⟩
abbrev main_cst_2 : Ref sig .tc := ⟨.hbm, 26, rfl⟩
abbrev main_v9 : Ref sig .tc := ⟨.hbm, 27, rfl⟩
abbrev main_cst_3 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_5 : Ref sig .tc := ⟨.hbm, 47, rfl⟩
abbrev main_v27 : Ref sig .tc := ⟨.hbm, 48, rfl⟩

abbrev nD : Nat := 1
abbrev τ : Topo := Topo.v7x

variable {F : FTy → Type} [FloatOps F]
-- ==== Proof.Sort.lean ====
/-
  The two greatest entries of a row, as a stable descending sort of the row's positions finds them: which positions
  they are, ties going to the smaller position.
-/
module

public import Idealize.ShloMosaic.Lib.SortFacts
public import Mathlib.Data.EReal.Basic

@[expose] public section

noncomputable section

namespace Cert.Moe

open Idealize.ShloMosaic

variable {n : Nat} (s : Fin n → EReal)

/-- Position `a` comes before position `b` in the descending order of the row `s`: its entry is greater, or the entries
    are equal and `a` is the smaller position. -/
def Before (a b : Fin n) : Prop := s b < s a ∨ (s b = s a ∧ a < b)

/-- The comparison that the descending sort makes: the entry at `a` is greater than the entry at `b`. -/
def greater (a b : Fin n) : Bool := decide (s b < s a)

open Classical in
/-- `Before` as a comparison. -/
def beforeB (a b : Fin n) : Bool := decide (Before s a b)

/-- On an ascending list of positions, the stable sort by the greater entry is the sort by `Before`: an element is only
    ever compared with elements of larger position. -/
theorem stableSort_greater (l : List (Fin n)) (hl : l.Pairwise (· < ·)) :
    stableSort (greater s) l = stableSort (beforeB s) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    unfold greater beforeB Before
    exact decide_eq_decide.mpr ⟨Or.inl, fun h => h.resolve_right fun h' => absurd h'.2 (not_lt.mpr hab.le)⟩

/-- `Before` is transitive, negated. -/
theorem not_before_trans (a b c : Fin n) (h₁ : ¬ Before s a b) (h₂ : ¬ Before s b c) : ¬ Before s a c := by
  unfold Before at *
  push Not at *
  refine ⟨h₁.1.trans h₂.1, fun h => ?_⟩
  have e₁ : s b = s a := le_antisymm (h ▸ h₂.1) h₁.1
  exact (h₂.2 (h.trans e₁.symm)).trans (h₁.2 e₁)

/-- The source of an earlier position of the descending sort is before the source of a later one. -/
theorem before_sortedFrom {i j : Fin n} (hij : i < j) :
    Before s (sortedFrom (greater s) i) (sortedFrom (greater s) j) := by
  have he : sortedFrom (greater s) = sortedFrom (beforeB s) := by
    funext k
    unfold sortedFrom
    refine List.get_of_eq ?_ _
    exact stableSort_greater s _ (List.pairwise_lt_finRange n)
  have hne : sortedFrom (greater s) i ≠ sortedFrom (greater s) j :=
    fun h => hij.ne (sortedFrom_injective _ h)
  have hno := sortedFrom_noInversion (beforeB s) (beforeB s)
    (fun a b h => by
      unfold beforeB at *
      simp only [decide_eq_true_eq, decide_eq_false_iff_not] at *
      rintro (h' | h') <;> rcases h with h | h
      · exact lt_asymm h h'
      · exact h'.ne h.1.symm
      · exact h.ne h'.1.symm
      · exact lt_asymm h.2 h'.2)
    (fun _ _ h => h)
    (fun a b c h₁ h₂ => by
      unfold beforeB at *
      simp only [decide_eq_false_iff_not] at *
      exact not_before_trans s a b c h₁ h₂) i j hij
  rw [he] at hne ⊢
  unfold beforeB at hno
  simp only [decide_eq_false_iff_not] at hno
  unfold Before at hno ⊢
  push Not at hno
  rcases lt_or_eq_of_le hno.1 with h | h
  · exact Or.inl h
  · exact Or.inr ⟨h, lt_of_le_of_ne (hno.2 h.symm) hne⟩

/-- Positions `p` and `q` hold the two greatest entries of the row, `p` the first and `q` the second, each the smallest
    position among equal ones. -/
structure TopTwo (p q : Fin n) : Prop where
  /-- Two different positions, -/
  ne : p ≠ q
  /-- `p` before every other one, -/
  first : ∀ e, e ≠ p → Before s p e
  /-- and `q` before every one but `p`. -/
  second : ∀ e, e ≠ p → e ≠ q → Before s q e

/-- The first two sources of the stable descending sort are the positions of the two greatest entries. -/
theorem topTwo_sortedFrom {n : Nat} (s : Fin (n + 2) → EReal) :
    TopTwo s (sortedFrom (greater s) 0) (sortedFrom (greater s) 1) where
  ne h := absurd (sortedFrom_injective _ h) (by simp)
  first e he := by
    obtain ⟨k, rfl⟩ := sortedFrom_surjective (greater s) e
    exact before_sortedFrom s (Fin.pos_of_ne_zero fun h => he (h ▸ rfl))
  second e hp hq := by
    obtain ⟨k, rfl⟩ := sortedFrom_surjective (greater s) e
    refine before_sortedFrom s ?_
    have h0 : k ≠ 0 := fun h => hp (h ▸ rfl)
    have h1 : k ≠ 1 := fun h => hq (h ▸ rfl)
    have h0' : k.val ≠ 0 := fun h => h0 (Fin.ext h)
    have h1' : k.val ≠ 1 := fun h => h1 (Fin.ext (by simpa using h))
    rw [Fin.lt_def, Fin.val_one]
    omega

end Cert.Moe

end
-- ==== Proof.Row.lean ====
/-
  One token's gating weights. A row of eight scores is turned into weights in two ways: by two rounds of "the greatest
  score, its first position, that position removed" and two quotients (`pickWeight`), and by a softmax of the row with
  every score but the two greatest replaced by −∞ (`softWeight`). Where the greatest score is finite both give the
  first of the two greatest `1 / (1 + d)`, the second `d / (1 + d)` with `d` the exponential of their difference, and
  every other position zero (`share`).
-/
module

public import proofs.«01_k».proof.Proof.Sort
public import Idealize.ShloMosaic.PureOps
public import Idealize.ShloMosaic.PureOps.Ideal
public import Idealize.ShloMosaic.Lib.SortNet.Extract

@[expose] public section

noncomputable section

namespace Cert.Moe

open Idealize.ShloMosaic

/-! ## Words -/

/-- A word comparison for equality of two small numbers is the bit of their equality. -/
theorem cmpi_eq_ofNat (a b : Fin 8) :
    IntOp.cmpi .eq (BitVec.ofNat 32 a.val) (BitVec.ofNat 32 b.val) = if a = b then 1#1 else 0#1 := by
  revert a b; decide

/-- The signed minimum over a set of words is at most the start and every word, and is one of them. -/
theorem fold_minsi_spec {ι : Type} [DecidableEq ι] (g : ι → BitVec 32) (S : Finset ι) (init : BitVec 32) :
    (∀ i ∈ S, (S.fold IntOp.minsi init g).toInt ≤ (g i).toInt)
      ∧ (S.fold IntOp.minsi init g = init ∨ ∃ i ∈ S, S.fold IntOp.minsi init g = g i) := by
  induction S using Finset.induction_on with
  | empty => exact ⟨fun i hi => absurd hi (Finset.notMem_empty i), Or.inl Finset.fold_empty⟩
  | insert a S ha ih =>
    obtain ⟨h₁, h₂⟩ := ih
    rw [Finset.fold_insert ha]
    have hm := SortNet.toInt_minsi (g a) (S.fold IntOp.minsi init g)
    have hor : IntOp.minsi (g a) (S.fold IntOp.minsi init g) = g a
        ∨ IntOp.minsi (g a) (S.fold IntOp.minsi init g) = S.fold IntOp.minsi init g := by
      unfold IntOp.minsi; split
      · exact Or.inl rfl
      · exact Or.inr rfl
    refine ⟨fun i hi => ?_, ?_⟩
    · rw [hm]
      rcases Finset.mem_insert.mp hi with rfl | hi
      · exact min_le_left _ _
      · exact (min_le_right _ _).trans (h₁ i hi)
    · rcases hor with h | h
      · exact Or.inr ⟨a, Finset.mem_insert_self a S, h⟩
      · rw [h]
        rcases h₂ with h₂ | ⟨i, hi, h₂⟩
        · exact Or.inl h₂
        · exact Or.inr ⟨i, Finset.mem_insert_of_mem hi, h₂⟩

/-! ## The weights by two rounds of the greatest score -/

/-- The greatest entry of a row. -/
def top (s : Fin 8 → EReal) : EReal := Finset.univ.fold max ⊥ s

/-- The word of the first position whose entry is `t`, computed as the least of the words of such positions. -/
def firstAt (s : Fin 8 → EReal) (t : EReal) : BitVec 32 :=
  Finset.univ.fold IntOp.minsi 2147483647#32 fun k => if s k = t then BitVec.ofNat 32 k.val else 8#32

/-- The bit "position `e` is the first one that holds the greatest entry". -/
def hot (s : Fin 8 → EReal) (e : Fin 8) : BitVec 1 := IntOp.cmpi .eq (BitVec.ofNat 32 e.val) (firstAt s (top s))

/-- The row with that position's entry replaced by −∞. -/
def rest (s : Fin 8 → EReal) (e : Fin 8) : EReal := Scalar.select (hot s e) ⊥ (s e)

/-- A bit as a number: zero or one. -/
def bit (b : BitVec 1) : EReal := (((b.setWidth 32).toInt : ℝ) : EReal)

/-- The exponential of the second greatest entry less the greatest. -/
def gap (s : Fin 8 → EReal) : EReal := Ideal.exp (top (rest s) - top s)

/-- The weight of position `e` by the two rounds. -/
def pickWeight (s : Fin 8 → EReal) (e : Fin 8) : EReal :=
  Ideal.div 1 (1 + gap s) * bit (hot s e) + Ideal.div (gap s) (1 + gap s) * bit (hot (rest s) e)

/-! ## The weights by a masked softmax -/

/-- How many of the two words `w` name position `e`. -/
def count (w : Fin 2 → BitVec 32) (e : Fin 8) : EReal :=
  ∑ k : Fin 2, (((IntOp.cmpi .eq (w k) (BitVec.ofNat 32 e.val)).toNat : ℝ) : EReal)

/-- The row with the entries at positions that neither word names replaced by −∞. -/
def masked (s : Fin 8 → EReal) (w : Fin 2 → BitVec 32) (e : Fin 8) : EReal := if count w e = 0 then ⊥ else s e

/-- The exponential of a masked entry less the greatest masked entry. -/
def expo (s : Fin 8 → EReal) (w : Fin 2 → BitVec 32) (e : Fin 8) : EReal :=
  Ideal.exp (masked s w e - max ⊥ (top (masked s w)))

/-- The weight of position `e` by the softmax of the masked row. -/
def softWeight (s : Fin 8 → EReal) (w : Fin 2 → BitVec 32) (e : Fin 8) : EReal :=
  Ideal.div (expo s w e) (∑ k, expo s w k)

/-! ## Both in closed form -/

/-- The weights in closed form, `p` and `q` the positions of the two greatest entries. -/
def share (s : Fin 8 → EReal) (p q e : Fin 8) : EReal :=
  if e = p then Ideal.div 1 (1 + Ideal.exp (s q - s p))
  else if e = q then Ideal.div (Ideal.exp (s q - s p)) (1 + Ideal.exp (s q - s p)) else 0

/-- The greatest entry is the one that is at least every entry. -/
theorem top_eq {s : Fin 8 → EReal} {p : Fin 8} (h : ∀ e, s e ≤ s p) : top s = s p := by
  have e : top s = Finset.univ.sup s := rfl
  rw [e]
  exact le_antisymm (Finset.sup_le fun e _ => h e) (Finset.le_sup (Finset.mem_univ p))

/-- The first position that holds `t`, where it is known. -/
theorem firstAt_eq {s : Fin 8 → EReal} {t : EReal} {p : Fin 8} (hp : s p = t) (hlt : ∀ e, e < p → s e ≠ t) :
    firstAt s t = BitVec.ofNat 32 p.val := by
  have small : ∀ k : Fin 8, (BitVec.ofNat 32 k.val).toInt = k.val := by decide
  obtain ⟨hle, hmem⟩ := fold_minsi_spec (fun k : Fin 8 => if s k = t then BitVec.ofNat 32 k.val else 8#32)
    Finset.univ 2147483647#32
  have hp' : (firstAt s t).toInt ≤ p.val := by
    have h := hle p (Finset.mem_univ p)
    simp only [hp, if_true] at h
    rwa [small p] at h
  have hp8 : (p.val : ℤ) < 8 := by have := p.isLt; omega
  change firstAt s t = _ ∨ ∃ i ∈ Finset.univ, firstAt s t = _ at hmem
  rcases hmem with h | ⟨i, -, h⟩
  · rw [h] at hp'
    exact absurd (hp'.trans_lt hp8) (by decide)
  · by_cases hi : s i = t
    · rw [if_pos hi] at h
      rw [h, small i] at hp'
      have : ¬ i < p := fun hip => hlt i hip hi
      have hip : i = p := by
        refine Fin.ext ?_
        rw [Fin.lt_def] at this
        omega
      rw [h, hip]
    · rw [if_neg hi] at h
      rw [h] at hp'
      exact absurd (hp'.trans_lt hp8) (by decide)

section TopTwo
variable {s : Fin 8 → EReal} {p q : Fin 8} (T : TopTwo s p q)
include T

/-- Every entry is at most the one at `p`. -/
theorem TopTwo.le_first (e : Fin 8) : s e ≤ s p := by
  by_cases h : e = p
  · rw [h]
  · rcases T.first e h with h | h
    · exact h.le
    · exact h.1.le

/-- Every entry but the one at `p` is at most the one at `q`. -/
theorem TopTwo.le_second (e : Fin 8) (he : e ≠ p) : s e ≤ s q := by
  by_cases h : e = q
  · rw [h]
  · rcases T.second e he h with h | h
    · exact h.le
    · exact h.1.le

/-- The greatest entry is the one at `p`. -/
theorem TopTwo.top : top s = s p := top_eq T.le_first

/-- The first round picks position `p`. -/
theorem TopTwo.hot (e : Fin 8) : hot s e = if e = p then 1#1 else 0#1 := by
  unfold Moe.hot
  rw [T.top, firstAt_eq rfl fun e he h => ?_, cmpi_eq_ofNat]
  rcases T.first e he.ne with h' | h'
  · exact h'.ne h
  · exact lt_asymm he h'.2

/-- The second round reads the row without position `p`. -/
theorem TopTwo.rest (e : Fin 8) : rest s e = if e = p then ⊥ else s e := by
  unfold Moe.rest Scalar.select
  rw [T.hot]
  by_cases h : e = p <;> simp [h]

/-- Its greatest entry is the one at `q`. -/
theorem TopTwo.top_rest : Moe.top (Moe.rest s) = s q := by
  have hq : Moe.rest s q = s q := by rw [T.rest, if_neg T.ne.symm]
  rw [← hq]
  refine top_eq fun e => ?_
  rw [hq, T.rest]
  split
  · exact bot_le
  · rename_i h; exact T.le_second e h

/-- If the second greatest entry is not −∞, the second round picks position `q`. -/
theorem TopTwo.hot_rest (hq : s q ≠ ⊥) (e : Fin 8) : Moe.hot (Moe.rest s) e = if e = q then 1#1 else 0#1 := by
  unfold Moe.hot
  rw [T.top_rest, firstAt_eq (p := q) (by rw [T.rest, if_neg T.ne.symm]) fun e he h => ?_, cmpi_eq_ofNat]
  rw [T.rest] at h
  by_cases hp : e = p
  · rw [if_pos hp] at h; exact hq h.symm
  · rw [if_neg hp] at h
    rcases T.second e hp he.ne with h' | h'
    · exact h'.ne h
    · exact lt_asymm he h'.2

omit T in
/-- The exponential is never negative, so one more than it is not zero. -/
theorem one_add_exp_ne_zero (x : EReal) : (1 : EReal) + Ideal.exp x ≠ 0 := by
  have h : 0 ≤ Ideal.exp x := by
    induction x with
    | bot => exact le_refl _
    | top => exact le_top
    | coe r => exact EReal.coe_nonneg.mpr (Real.exp_pos r).le
  exact (lt_of_lt_of_le zero_lt_one (le_add_of_nonneg_right h)).ne'

omit T in
/-- Zero divided by one more than an exponential is zero. -/
theorem zero_div_one_add_exp (x : EReal) : Ideal.div 0 (1 + Ideal.exp x) = 0 := by
  unfold Ideal.div
  rw [if_neg (one_add_exp_ne_zero x), zero_mul]

/-- The two rounds give the closed form, where the greatest entry is finite. -/
theorem TopTwo.pickWeight_eq (hb : s p ≠ ⊥) (ht : s p ≠ ⊤) (e : Fin 8) : pickWeight s e = share s p q e := by
  have b1 : bit 1#1 = 1 := by unfold bit; norm_num
  have b0 : bit 0#1 = 0 := by unfold bit; norm_num
  have hg : gap s = Ideal.exp (s q - s p) := by unfold gap; rw [T.top_rest, T.top]
  unfold pickWeight share
  rw [hg, T.hot]
  by_cases hq : s q = ⊥
  · have hz : Ideal.exp (s q - s p) = 0 := by rw [hq, EReal.bot_sub]; rfl
    have hd := zero_div_one_add_exp (s q - s p)
    rw [hz] at hd ⊢
    rw [hd, zero_mul, add_zero]
    by_cases hp : e = p
    · rw [if_pos hp, if_pos hp, b1, mul_one]
    · rw [if_neg hp, if_neg hp, b0, mul_zero, ite_self]
  · rw [T.hot_rest hq]
    by_cases hp : e = p
    · have hne : e ≠ q := fun h => T.ne (hp.symm.trans h)
      rw [if_pos hp, if_pos hp, if_neg hne, b1, b0, mul_one, mul_zero, add_zero]
    · rw [if_neg hp, if_neg hp, b0, mul_zero, zero_add]
      by_cases he : e = q
      · rw [if_pos he, if_pos he, b1, mul_one]
      · rw [if_neg he, if_neg he, b0, mul_zero]

/-- The masked row of the softmax: the entries at `p` and `q`, and −∞ elsewhere. -/
theorem TopTwo.masked_eq {w : Fin 2 → BitVec 32} (h0 : w 0 = BitVec.ofNat 32 p.val) (h1 : w 1 = BitVec.ofNat 32 q.val)
    (e : Fin 8) : masked s w e = if e = p ∨ e = q then s e else ⊥ := by
  unfold masked count
  rw [Fin.sum_univ_two, h0, h1, cmpi_eq_ofNat, cmpi_eq_ofNat]
  by_cases hp : e = p
  · have hne : q ≠ e := fun h => T.ne (hp.symm.trans h.symm)
    simp [hp, T.ne.symm]
  · by_cases hq : e = q
    · simp [hq, T.ne]
    · simp [hp, hq, Ne.symm hp, Ne.symm hq]

/-- The masked softmax gives the closed form, where the greatest entry is finite. -/
theorem TopTwo.softWeight_eq {w : Fin 2 → BitVec 32} (h0 : w 0 = BitVec.ofNat 32 p.val)
    (h1 : w 1 = BitVec.ofNat 32 q.val) (hb : s p ≠ ⊥) (ht : s p ≠ ⊤) (e : Fin 8) :
    softWeight s w e = share s p q e := by
  have hm := T.masked_eq h0 h1
  have hp : masked s w p = s p := by rw [hm, if_pos (Or.inl rfl)]
  have htop : Moe.top (masked s w) = s p := by
    rw [← hp]
    refine top_eq fun e => ?_
    rw [hp, hm]
    split
    · exact T.le_first e
    · exact bot_le
  have hexp : ∀ e, expo s w e = (if e = p then 1 else 0) + (if e = q then Ideal.exp (s q - s p) else 0) := by
    intro e
    unfold expo
    rw [htop, max_eq_right bot_le, hm]
    by_cases h : e = p
    · have hne : e ≠ q := fun h' => T.ne (h.symm.trans h')
      rw [if_pos (Or.inl h), if_pos h, if_neg hne, add_zero, h, EReal.sub_self ht hb]
      show ((Real.exp 0 : ℝ) : EReal) = 1
      rw [Real.exp_zero]; rfl
    · by_cases h' : e = q
      · rw [if_pos (Or.inr h'), if_neg h, if_pos h', zero_add, h']
      · rw [if_neg (not_or.mpr ⟨h, h'⟩), if_neg h, if_neg h', add_zero, EReal.bot_sub]; rfl
  have hsum : ∑ k, expo s w k = 1 + Ideal.exp (s q - s p) := by
    rw [Finset.sum_congr rfl fun k _ => hexp k, Finset.sum_add_distrib, Finset.sum_ite_eq', Finset.sum_ite_eq',
      if_pos (Finset.mem_univ _), if_pos (Finset.mem_univ _)]
  unfold softWeight share
  rw [hsum, hexp]
  by_cases h : e = p
  · have hne : e ≠ q := fun h' => T.ne (h.symm.trans h')
    rw [if_pos h, if_pos h, if_neg hne, add_zero]
  · rw [if_neg h, if_neg h, zero_add]
    by_cases h' : e = q
    · rw [if_pos h', if_pos h']
    · rw [if_neg h', if_neg h', zero_div_one_add_exp]

end TopTwo

/-- THE WEIGHTS AGREE: where the greatest of a row's eight scores is finite, the two rounds and the softmax over the two
    positions that a stable descending sort puts first give every position the same weight. -/
theorem pickWeight_eq_softWeight (s : Fin 8 → EReal) (w : Fin 2 → BitVec 32)
    (hw : ∀ k : Fin 2, w k = BitVec.ofNat 32 (sortedFrom (greater s) (k.castLE (by decide))).val)
    (hb : top s ≠ ⊥) (ht : top s ≠ ⊤) (e : Fin 8) : pickWeight s e = softWeight s w e := by
  have T := topTwo_sortedFrom (n := 6) s
  rw [T.top] at hb ht
  rw [T.pickWeight_eq hb ht, T.softWeight_eq (hw 0) (hw 1) hb ht]

end Cert.Moe

end
-- ==== Proof.Layer.lean ====
/-
  The layer for one token, over the arrays of weights: the token's gating scores, its outputs by the experts, and their
  sum in the proportions that a given weighting of the scores assigns.
-/
module

public import proofs.«01_k».proof.Proof.Row
public import Idealize.ShloMosaic.Lib.Pointwise

@[expose] public section

noncomputable section

namespace Cert.Moe

open Idealize.ShloMosaic

/-- The shape of the gate's matrix. -/
abbrev GateShape : Shape := ⟨2, ![768, 8]⟩
/-- The shape of the gate's bias. -/
abbrev GateBiasShape : Shape := ⟨1, ![8]⟩
/-- The shape of the experts' matrices. -/
abbrev ExpertShape : Shape := ⟨3, ![8, 768, 768]⟩
/-- The shape of the experts' biases. -/
abbrev ExpertBiasShape : Shape := ⟨2, ![8, 768]⟩

/-- The gating scores of the token `v`: its product with the gate's matrix, and the bias. -/
def score (v : Fin 768 → EReal) (wg : FVec Ideal GateShape .f32) (bg : FVec Ideal GateBiasShape .f32) (e : Fin 8) : EReal :=
  ∑ k, v k * wg (ix2 k e) + bg (ix1 e)

/-- Entry `f` of expert `e`'s output for the token `v`. -/
def expert (v : Fin 768 → EReal) (we : FVec Ideal ExpertShape .f32) (be : FVec Ideal ExpertBiasShape .f32) (e : Fin 8)
    (f : Fin 768) : EReal :=
  ∑ k, v k * we (ix3 e k f) + be (ix2 e f)

/-- Entry `f` of the layer's output for the token `v`: the experts' outputs in the proportions of the two-round weights. -/
def layer (v : Fin 768 → EReal) (wg : FVec Ideal GateShape .f32) (bg : FVec Ideal GateBiasShape .f32)
    (we : FVec Ideal ExpertShape .f32) (be : FVec Ideal ExpertBiasShape .f32) (f : Fin 768) : EReal :=
  ∑ e, pickWeight (score v wg bg) e * expert v we be e f

/-- The f32 pattern of −∞ is −∞. -/
theorem ofBits_negInf : Ideal.ofBits .f32 0xFF800000#32 = ⊥ := by
  simp [Ideal.ofBits, Ideal.ieee]

/-- The f32 pattern of +∞ is +∞. -/
theorem ofBits_posInf : Ideal.ofBits .f32 0x7F800000#32 = ⊤ := by
  simp [Ideal.ofBits, Ideal.ieee]

end Cert.Moe

end
-- ==== Proof.Block.lean ====
/-
  What the kernel computes from one tile of tokens, read at an index: the tile's scores, the two rounds that pick two
  positions of each row, the weights, and the sum over the experts.
-/
module

public import proofs.«01_k».proof.Proof.Gen.KernelIdeal.Skeleton
public import proofs.«01_k».proof.Proof.Layer

@[expose] public section

set_option maxRecDepth 16384

noncomputable section

open Idealize.ShloMosaic Idealize.ShloMosaic.TcCoe Idealize.SL.Sem

namespace Cert.KernelIdeal.Block

open Cert.KernelIdeal Cert.KernelIdeal.Gen Cert.Moe

variable (x : Vec Ideal S1024x768 .f32) (wg : Vec Ideal S768x8 .f32) (bg : Vec Ideal S8 .f32)

/-- The scores of row `r` of the tile. -/
abbrev row (r : Fin 1024) : Fin 8 → EReal := score (fun k => x (ix2 r k)) wg bg

/-- The first payload is the array of scores. -/
theorem scores_at (r : Fin 1024) (e : Fin 8) : k0_pay2 x wg bg (ix2 r e) = row x wg bg r e := by
  pointwise [k0_pay2, row, score]

/-- The greatest score of the row. -/
theorem max_at (r : Fin 1024) : k0_pay3 x wg bg (ix2 r 0) = top (row x wg bg r) := by
  pointwise [k0_pay3, scores_at, ofBits_negInf]
  rfl

/-- The first round's one-hot row. -/
theorem hot_at (r : Fin 1024) (e : Fin 8) : k0_pay4 x wg bg (ix2 r e) = hot (row x wg bg r) e := by
  pointwise [k0_pay4, scores_at, max_at]
  rfl

/-- The row without the position the first round picks. -/
theorem rest_at (r : Fin 1024) (e : Fin 8) : k0_pay5 x wg bg (ix2 r e) = rest (row x wg bg r) e := by
  pointwise [k0_pay5, scores_at, hot_at, ofBits_negInf]
  rfl

/-- Its greatest score. -/
theorem max_rest_at (r : Fin 1024) : k0_pay6 x wg bg (ix2 r 0) = top (rest (row x wg bg r)) := by
  pointwise [k0_pay6, rest_at, ofBits_negInf]
  rfl

/-- The second round's one-hot row. -/
theorem hot_rest_at (r : Fin 1024) (e : Fin 8) : k0_pay7 x wg bg (ix2 r e) = hot (rest (row x wg bg r)) e := by
  pointwise [k0_pay7, rest_at, max_rest_at]
  rfl

/-- The exponential of the second greatest score less the greatest. -/
theorem gap_at (r : Fin 1024) : k0_pay8 x wg bg (ix2 r 0) = gap (row x wg bg r) := by
  pointwise [k0_pay8, max_rest_at, max_at]
  rfl

/-- The weights of the tile's rows. -/
theorem weight_at (r : Fin 1024) (e : Fin 8) :
    k0_pay11 (F := Ideal) (k0_pay7 x wg bg) (k0_pay9 x wg bg) (k0_pay10 x wg bg) (ix2 r e)
      = pickWeight (row x wg bg r) e := by
  pointwise [k0_pay11, k0_pay9, k0_pay10, hot_at, hot_rest_at, gap_at]
  rfl

/-- The sum over the experts, over any weights `(v29, v38, v42)` and any eight experts' matrices and biases. -/
theorem mix_at (v29 : IVec S1024x8 1) (v38 : FVec Ideal S1024x1 .f32) (v42 : FVec Ideal S1024x8 .f32)
    (W : Fin 8 → Vec Ideal S1x768x768 .f32) (B : Fin 8 → Vec Ideal S1x768 .f32) (r : Fin 1024) (f : Fin 768) :
    k0_pay1 (F := Ideal) x (k0_pay11 v29 v38 v42)
      (k0_pay15 x (k0_pay11 v29 v38 v42) (k0_pay12 x v29 v38 v42 (W 0) (B 0) (W 1) (B 1)) (k0_pay13 x (W 2))
        (k0_pay14 (B 2)) (W 3) (B 3) (W 4) (B 4))
      (k0_pay16 x (W 5)) (k0_pay17 (B 5)) (W 6) (B 6) (W 7) (B 7) (ix2 r f)
    = ∑ e, k0_pay11 v29 v38 v42 (ix2 r e) * (∑ k, x (ix2 r k) * W e (ix3 0 k f) + B e (ix2 0 f)) := by
  pointwise [k0_pay1, k0_pay12, k0_pay13, k0_pay14, k0_pay15, k0_pay16, k0_pay17]
  rw [Fin.sum_univ_eight]

end Cert.KernelIdeal.Block

end
-- ==== Proof.Tiles.lean ====
/-
  The kernel's result array: row `i` of it is the layer's output for row `i` of the tokens.
-/
module

public import proofs.«01_k».proof.Proof.Gen.KernelIdeal.Value
public import proofs.«01_k».proof.Proof.Block
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Moe Cert.KernelIdeal.Block

variable (m : (ℓ : Loc nD τ sig) → Buf (Elt Ideal) ℓ)

/-- The layer's output for every token of the array `X`. -/
def layers (X : FVec Ideal S8192x768 .f32) (wg : FVec Ideal S768x8 .f32) (bg : FVec Ideal S8 .f32)
    (we : FVec Ideal S8x768x768 .f32) (be : FVec Ideal S8x768 .f32) : FVec Ideal S8192x768 .f32 :=
  fun i => layer (fun k => X (ix2 (i 0) k)) wg bg we be (i 1)

/-- The windows' index maps: the tokens' tile and the result's tile move with the grid, the others are whole arrays. -/
theorem idx : ∀ t : Fin cfg0.N, win0_0.index t = ![t.val, 0] ∧ win0_1.index t = ![0, 0] ∧ win0_2.index t = ![0]
    ∧ win0_3.index t = ![0, 0, 0] ∧ win0_4.index t = ![0, 0] ∧ win0_5.index t = ![t.val, 0] :=
  (by decide +kernel : ∀ t : Fin grid0.N, _)

/-- The staged expert matrices are the whole array of them. -/
theorem experts_at (c : Dev nD) (t : Fin cfg0.N) (e : Fin 8) (k f : Fin 768) :
    iblk m c 3 t (ix3 e k f) = m ((c : Thread nD τ).loc main_arg3) (ix3 e k f) := by
  blk_ext [iblk, V, idx t]

/-- The staged expert biases are the whole array of them. -/
theorem biases_at (c : Dev nD) (t : Fin cfg0.N) (e : Fin 8) (f : Fin 768) :
    iblk m c 4 t (ix2 e f) = m ((c : Thread nD τ).loc main_arg4) (ix2 e f) := by
  blk_ext [iblk, V, idx t]

/-- The eight expert matrices, as the body loads them one by one. -/
def loadedExperts (c : Dev nD) (t : Fin cfg0.N) : Fin 8 → FVec Ideal S1x768x768 .f32 :=
  ![View.ld (iblk m c 3 t) r0_3, View.ld (iblk m c 3 t) r0_5, View.ld (iblk m c 3 t) r0_7, View.ld (iblk m c 3 t) r0_9,
    View.ld (iblk m c 3 t) r0_11, View.ld (iblk m c 3 t) r0_13, View.ld (iblk m c 3 t) r0_15, View.ld (iblk m c 3 t) r0_17]

/-- The eight expert bias rows, as the body loads them one by one. -/
def loadedBiases (c : Dev nD) (t : Fin cfg0.N) : Fin 8 → FVec Ideal S1x768 .f32 :=
  ![View.ld (iblk m c 4 t) r0_4, View.ld (iblk m c 4 t) r0_6, View.ld (iblk m c 4 t) r0_8, View.ld (iblk m c 4 t) r0_10,
    View.ld (iblk m c 4 t) r0_12, View.ld (iblk m c 4 t) r0_14, View.ld (iblk m c 4 t) r0_16, View.ld (iblk m c 4 t) r0_18]

/-- The matrix loaded for expert `e` is page `e` of the array of matrices. -/
theorem loadedExperts_at (c : Dev nD) (t : Fin cfg0.N) (e : Fin 8) (k f : Fin 768) :
    loadedExperts m c t e (ix3 0 k f) = m ((c : Thread nD τ).loc main_arg3) (ix3 e k f) := by
  refine Eq.trans ?_ (experts_at m c t e k f)
  unfold loadedExperts
  fin_cases e <;>
  · simp only [Fin.reduceFinMk, Matrix.cons_val]
    pointwise

/-- The bias row loaded for expert `e` is row `e` of the array of biases. -/
theorem loadedBiases_at (c : Dev nD) (t : Fin cfg0.N) (e : Fin 8) (f : Fin 768) :
    loadedBiases m c t e (ix2 0 f) = m ((c : Thread nD τ).loc main_arg4) (ix2 e f) := by
  refine Eq.trans ?_ (biases_at m c t e f)
  unfold loadedBiases
  fin_cases e <;>
  · simp only [Fin.reduceFinMk, Matrix.cons_val]
    pointwise

/-- The kernel's result array is the layer's output for every token. -/
theorem final (c : Dev nD) : (dats m 0 c).arrAt 5 cfg0.N
    = layers (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  unfold_out out0_5
  frame_out
  idx_vars y
  refine (mix_at (iblk m c 0 t) _ _ _ (loadedExperts m c t) (loadedBiases m c t) y0 y1).trans ?_
  unfold layers layer
  have col : y1 = (((View.whole main_v0).slice (win0_5.rect t)).emb (ix2 y0 y1)) 1 := by
    refine Fin.ext ?_
    blk_simp [idx t]
  refine Finset.sum_congr rfl fun e _ => Ideal.mul_congr ?_ ?_
  · refine (weight_at _ _ _ y0 e).trans (congrArg (fun s => pickWeight s e) (funext fun e' => ?_))
    unfold row score
    refine Ideal.add_congr (Finset.sum_congr rfl fun k _ => Ideal.mul_congr ?_ ?_) ?_ <;> blk_ext [iblk, V, idx t]
  · unfold expert
    refine Ideal.add_congr (Finset.sum_congr rfl fun k _ => Ideal.mul_congr ?_ ?_) ?_
    · blk_ext [iblk, V, idx t]
    · exact (loadedExperts_at m c t e k y1).trans (congrArg (fun f => m ((c : Thread nD τ).loc main_arg3) (ix3 e k f)) col)
    · exact (loadedBiases_at m c t e y1).trans (congrArg (fun f => m ((c : Thread nD τ).loc main_arg4) (ix2 e f)) col)

end Cert.KernelIdeal.Value

end
-- ==== Proof.Softmax.lean ====
/-
  The reference's result array, read at an index: the two positions that its top-k names, and the softmax over the row
  masked to them.
-/
module

public import proofs.«01_k».proof.Proof.Gen.ReferenceIdeal.Run
public import proofs.«01_k».proof.Proof.Layer
public import Idealize.ShloMosaic.Lib.Tactic.CleanTypes

@[expose] public section

set_option maxRecDepth 16384

noncomputable section

open Idealize.ShloMosaic Idealize.ShloMosaic.TcCoe Idealize.SL.Sem

namespace Cert.ReferenceIdeal.Value

open Cert.ReferenceIdeal Cert.ReferenceIdeal.Gen Cert.Moe

/-- The position that the top-k of an array of scores names at rank `k` of row `r`. -/
theorem topK_at (x : FVec Ideal S8192x8 .f32) (r : Fin 8192) (k : Fin 2) :
    (Host.topK S8192x2 1 (FloatOps.cmpfTotal .gt) x sliceFits_S8192x8_S8192x2).2 (ix2 r k)
      = BitVec.ofNat 32 (sortedFrom (greater fun e : Fin 8 => x (ix2 r e)) (k.castLE (by decide))).val := by
  unfold Host.topK
  pointwise [Host.sort2]
  have along : ∀ (a : Fin 8) (b : Fin 8), (ix2 r a : S8192x8.Idx).along 1 b = ix2 r b := fun a b => by
    unfold Shape.Idx.along
    funext d
    fin_cases d <;> rfl
  have gt : ∀ a b : EReal, (FloatOps.cmpfTotal (F := Ideal) (φ := .f32) CmpDirection.gt a b == 1#1) = decide (b < a) := by
    intro a b
    by_cases h : b < a <;> simp [Ideal.cmpfTotal_def, Ideal.cmp, CmpDirection.ordered, h]
  refine congrArg (BitVec.ofNat 32) ((congrArg (fun i : S8192x8.Idx => (i 1).val) (along _ _)).trans ?_)
  show (sortedFrom _ _).val = _
  refine congrArg (fun B : Fin 8 → Fin 8 → Bool => (sortedFrom B (k.castLE (by decide))).val)
    (funext fun a => funext fun b => ?_)
  exact (congrArg₂ (fun i j => FloatOps.cmpfTotal (F := Ideal) (φ := .f32) .gt (x i) (x j) == 1#1)
    (along _ a) (along _ b)).trans (gt _ _)

/-- The scores as the reference computes them, at an index. -/
theorem scores_at (X : FVec Ideal S8192x768 .f32) (wg : FVec Ideal S768x8 .f32) (bg : FVec Ideal S8 .f32) (r : Fin 8192) (e : Fin 8) :
    addf (Host.dotGeneral dot_S8192x768_S768x8_S8192x8_1_0_0_1_n_n none X wg)
      (broadcastInDim S8192x8 ![0, 1] bcast_S1x8_S8192x8_0_1 (broadcastInDim S1x8 ![1] bcast_S8_S1x8_1 bg)) (ix2 r e)
    = score (fun k => X (ix2 r k)) wg bg e := by
  pointwise [score]

/-- The positions that the reference's top-k names in row `r`. -/
def named (X : FVec Ideal S8192x768 .f32) (wg : FVec Ideal S768x8 .f32) (bg : FVec Ideal S8 .f32) (r : Fin 8192) (k : Fin 2) :
    BitVec 32 :=
  (Host.topK S8192x2 1 (FloatOps.cmpfTotal .gt)
    (addf (Host.dotGeneral dot_S8192x768_S768x8_S8192x8_1_0_0_1_n_n none X wg)
      (broadcastInDim S8192x8 ![0, 1] bcast_S1x8_S8192x8_0_1 (broadcastInDim S1x8 ![1] bcast_S8_S1x8_1 bg)))
    sliceFits_S8192x8_S8192x2).2 (ix2 r k)

/-- The named positions are the first two of the row's scores sorted from the greatest. -/
theorem named_eq (X : FVec Ideal S8192x768 .f32) (wg : FVec Ideal S768x8 .f32) (bg : FVec Ideal S8 .f32) (r : Fin 8192)
    (k : Fin 2) :
    named X wg bg r k
      = BitVec.ofNat 32 (sortedFrom (greater (score (fun k => X (ix2 r k)) wg bg)) (k.castLE (by decide))).val :=
  (topK_at _ r k).trans (congrArg (fun s => BitVec.ofNat 32 (sortedFrom (greater s) (k.castLE (by decide))).val)
    (funext fun e => scores_at _ _ _ r e))

variable (m : (ℓ : Loc nD τ sig) → Buf (Elt Ideal) ℓ)

/-- The reference's result at an index: the experts' outputs in the proportions of the masked softmax. -/
theorem out_at (c : Dev nD) (r : Fin 8192) (f : Fin 768) :
    (res_main_v27 m c : FVec Ideal S8192x768 .f32) (ix2 r f)
      = ∑ e, softWeight (score (fun k => m (c.tc.loc main_arg0) (ix2 r k)) (m (c.tc.loc main_arg1)) (m (c.tc.loc main_arg2)))
            (named (m (c.tc.loc main_arg0)) (m (c.tc.loc main_arg1)) (m (c.tc.loc main_arg2)) r) e
          * expert (fun k => m (c.tc.loc main_arg0) (ix2 r k)) (m (c.tc.loc main_arg3)) (m (c.tc.loc main_arg4)) e f := by
  unfold res_main_v27
  clean_types
  pointwise []
  unfold softWeight expo masked Moe.count named Moe.top score expert
  rw [← ofBits_negInf]
  rfl

end Cert.ReferenceIdeal.Value

end
-- ==== Proof.Pre.lean ====
/-
  What the precondition says of each token: the greatest of its gating scores is neither −∞ nor +∞.
-/
module

public import proofs.«01_k».proof.Pre_top_score_finite
public import proofs.«01_k».proof.Proof.Layer
public import Idealize.ShloMosaic.Lib.Decide

@[expose] public section

noncomputable section

open Idealize.ShloMosaic

namespace Cert.Pre_top_score_finite

open Cert.Moe

/-- The shape relations of the predicate's operations hold. -/
instance facts : Facts where
  bcast_S8_S1x8_1 := by decide
  bcast_S1x8_S8192x8_0_1 := by decide
  reducesTo_S8192x8_S8192_d1 := by decide
  h_S_ := by decide
  bcast_S_S8192 := by decide
  dot_S8192x768_S768x8_S8192x8_1_0_0_1_n_n_wf := by decide

/-- A number of absolute value below +∞ is neither infinity. -/
theorem finite_of_abs {a : EReal} (h : max a (-a) < ⊤) : a ≠ ⊥ ∧ a ≠ ⊤ := by
  refine ⟨?_, ?_⟩ <;> rintro rfl <;> simp at h

/-- A condition whose truth word is 1 holds. -/
theorem holds_of_word {p : Prop} [Decidable p] (h : BitVec.ofBool (decide p) = 1#1) : p := by
  by_contra hn
  rw [decide_eq_false hn] at h
  exact absurd h (by decide)

/-- Where the precondition holds, the greatest gating score of every token is finite. -/
theorem top_finite [Facts] {X : FVec Ideal S8192x768 .f32} {wg : FVec Ideal S768x8 .f32} {bg : FVec Ideal S8 .f32}
    {we : FVec Ideal S8x768x768 .f32} {be : FVec Ideal S8x768 .f32}
    (h : fn (F := Ideal) X wg bg we be = fun _ => 1#1) (r : Fin 8192) :
    top (score (fun k => X (ix2 r k)) wg bg) ≠ ⊥ ∧ top (score (fun k => X (ix2 r k)) wg bg) ≠ ⊤ := by
  have hr := congrFun h (ix1 r)
  unfold fn at hr
  refine finite_of_abs ?_
  revert hr
  pointwise [ofBits_negInf, ofBits_posInf]
  exact fun hr => holds_of_word hr

end Cert.Pre_top_score_finite

end
-- ==== Proof.Equal.lean ====
/-
  The equation of the two programs' results: at a token whose greatest gating score is finite, the experts' outputs in
  the proportions of the masked softmax are the layer's output.
-/
module

public import proofs.«01_k».proof.Proof.Tiles
public import proofs.«01_k».proof.Proof.Softmax
public import proofs.«01_k».proof.Proof.Pre

@[expose] public section

noncomputable section

open Idealize.ShloMosaic Idealize.ShloMosaic.TcCoe Idealize.SL.Sem

namespace Cert.ReferenceIdeal.Value

open Cert.ReferenceIdeal Cert.ReferenceIdeal.Gen Cert.Moe

variable (m : (ℓ : Loc nD τ sig) → Buf (Elt Ideal) ℓ)

/-- The reference's result array is the layer's output for every token, where every token's greatest score is finite. -/
theorem result_eq (c : Dev nD)
    (h : ∀ r : Fin 8192,
      top (score (fun k => m (c.tc.loc main_arg0) (ix2 r k)) (m (c.tc.loc main_arg1)) (m (c.tc.loc main_arg2))) ≠ ⊥
      ∧ top (score (fun k => m (c.tc.loc main_arg0) (ix2 r k)) (m (c.tc.loc main_arg1)) (m (c.tc.loc main_arg2))) ≠ ⊤) :
    res_main_v27 m c = Cert.KernelIdeal.Value.layers (m (c.tc.loc main_arg0)) (m (c.tc.loc main_arg1))
      (m (c.tc.loc main_arg2)) (m (c.tc.loc main_arg3)) (m (c.tc.loc main_arg4)) := by
  funext i
  idx_vars i
  refine Eq.trans (α := EReal) (out_at m c i0 i1) ?_
  unfold Cert.KernelIdeal.Value.layers layer
  refine Finset.sum_congr rfl fun e _ => Ideal.mul_congr ?_ rfl
  exact (pickWeight_eq_softWeight _ _ (named_eq _ _ _ i0) (h i0).1 (h i0).2 e).symm

end Cert.ReferenceIdeal.Value

end
-- ==== Proof.lean ====
/-
  The certificate's claims, assembled: the frames of the kernel and of the reference, and the equality of their results
  over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Equal
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem Cert.Kernel

/-- The reference leaves its arguments as they were, and has no counter to leave. -/
theorem reference_frame : Cert.quiescent_ReferenceIdeal := fun m ρ _ =>
  (θ_run _ _ _).mono (fun r h => ⟨fun c => (h c).2, sem_eq_zero_of_no_sems rfl r.2⟩) (Cert.ReferenceIdeal.Value.run m ρ)

/-- The kernel leaves its arguments and its counters as they were, at the bit-exact instance and at the extended reals;
    so does the reference; and where every token's greatest gating score is finite, the two end with equal results. -/
theorem claim : Cert.Claim := by
  refine ⟨Cert.Kernel.Gen.facts, Cert.KernelIdeal.Gen.facts, Cert.ReferenceIdeal.Gen.facts, Cert.Pre_top_score_finite.facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial,
    trivial, ?_⟩
  pair_intro
  · run_from Cert.KernelIdeal.Value.run_blocks m g
  · run_from Cert.ReferenceIdeal.Value.run m' g'
    obtain ⟨h0, h1, h2, h3, h4⟩ := hagree c
    refine (Cert.ReferenceIdeal.Value.result_eq m' c fun r => ?_).trans ?_
    · rw [h0, h1, h2]
      exact Cert.Pre_top_score_finite.top_finite (hpre c) r
    · rw [h0, h1, h2, h3, h4]
      exact (Cert.KernelIdeal.Value.final m c).symm

end Cert.Proof

end
